-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x4096 : Shape := ⟨3, ![4, 4096, 4096]⟩
abbrev S1024x4096 : Shape := ⟨2, ![1024, 4096]⟩
abbrev S1 : Shape := ⟨1, ![1]⟩
abbrev S16384x4096 : Shape := ⟨2, ![16384, 4096]⟩
abbrev S1x1 : Shape := ⟨2, ![1, 1]⟩
abbrev S16384x1024 : Shape := ⟨2, ![16384, 1024]⟩
abbrev S16384x1 : Shape := ⟨2, ![16384, 1]⟩
abbrev S1024x1024 : Shape := ⟨2, ![1024, 1024]⟩
abbrev S1024x1 : Shape := ⟨2, ![1024, 1]⟩
abbrev S256x8 : Shape := ⟨2, ![256, 8]⟩
abbrev S1024x256 : Shape := ⟨2, ![1024, 256]⟩
abbrev S1024x8 : Shape := ⟨2, ![1024, 8]⟩
abbrev S_ : Shape := ⟨0, ![]⟩
abbrev S4x4096 : Shape := ⟨2, ![4, 4096]⟩

abbrev nBuf : Space → Nat
  | .hbm => 16
  | .vmem => 9
  | .smem => 2
  | _ => 0

abbrev bufTy : (tb : Table) → Fin (tcTables nBuf tb) → BufTy
  | .hbm, ⟨0, _⟩ => ⟨S4x4096x4096, .f32⟩
  | .hbm, ⟨1, _⟩ => ⟨S1024x4096, .f32⟩
  | .hbm, ⟨2, _⟩ => ⟨S1, .f32⟩
  | .hbm, ⟨3, _⟩ => ⟨S1, .f32⟩
  | .hbm, ⟨4, _⟩ => ⟨S16384x4096, .f32⟩
  | .hbm, ⟨5, _⟩ => ⟨S1x1, .f32⟩
  | .hbm, ⟨6, _⟩ => ⟨S1x1, .f32⟩
  | .hbm, ⟨7, _⟩ => ⟨S16384x1024, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .i1⟩
  | .hbm, ⟨13, _⟩ => ⟨S16384x1, .i1⟩
  | .hbm, ⟨14, _⟩ => ⟨S4x4096, .i1⟩
  | .hbm, ⟨15, _⟩ => ⟨S4x4096, .f32⟩
  | .local _ .vmem, ⟨0, _⟩ => ⟨S1024x4096, .f32⟩
  | .local _ .vmem, ⟨1, _⟩ => ⟨S1024x4096, .f32⟩
  | .local _ .vmem, ⟨2, _⟩ => ⟨S1024x4096, .f32⟩
  | .local _ .vmem, ⟨3, _⟩ => ⟨S1024x1024, .f32⟩
  | .local _ .vmem, ⟨4, _⟩ => ⟨S1024x1024, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .smem, ⟨0, _⟩ => ⟨S1x1, .f32⟩
  | .local _ .smem, ⟨1, _⟩ => ⟨S1x1, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x4096x4096 : Shape := ⟨3, ![4, 4096, 4096]⟩
abbrev S1024x4096 : Shape := ⟨2, ![1024, 4096]⟩
abbrev S1 : Shape := ⟨1, ![1]⟩
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S4x4096 : Shape := ⟨2, ![4, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1024x4096, .f32⟩
  | .hbm, ⟨2, _⟩ => ⟨S1, .f32⟩
  | .hbm, ⟨3, _⟩ => ⟨S1, .f32⟩
  | .hbm, ⟨4, _⟩ => ⟨S16384x4096, .f32⟩
  | .hbm, ⟨5, _⟩ => ⟨S4096x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .i1⟩
  | .hbm, ⟨20, _⟩ => ⟨S_, .i1⟩
  | .hbm, ⟨21, _⟩ => ⟨S16384, .i1⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384, .i1⟩
  | .hbm, ⟨32, _⟩ => ⟨S4x4096, .i1⟩
  | .hbm, ⟨33, _⟩ => ⟨S_, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S4x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Proof.Block.lean ====
/-
  What one grid point of the gate kernel computes, at the ideal instance: the three blocks that the body stores, read at
  an index, as sums over the two blocks that it loads.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Gate

open Cert.KernelIdeal Cert.KernelIdeal.Gen

/-- The projection of one row: entry `r` is the inner product of the row `x` with row `r` of the weight `w`. -/
def hidden (x : Fin 4096 → EReal) (w : FVec Ideal S1024x4096 .f32) (r : Fin 1024) : EReal := ∑ k : Fin 4096, x k * w (ix2 r k)

/-- The score of one row: the Euclidean norm of its projection, times the scale, minus the bias. -/
def score (x : Fin 4096 → EReal) (w : FVec Ideal S1024x4096 .f32) (s b : EReal) : EReal :=
  Ideal.sqrt (∑ r : Fin 1024, hidden x w r * hidden x w r) * s - b

/-- Whether one row passes the gate: its score is at least one half. -/
def keep (x : Fin 4096 → EReal) (w : FVec Ideal S1024x4096 .f32) (s b : EReal) : BitVec 1 :=
  Ideal.cmp .oge (score x w s b) (Ideal.ofBits .f32 0x3F000000#32)

/-- The score that is reported of one row: the score where the row passes, minus infinity where it fails. -/
def gated (x : Fin 4096 → EReal) (w : FVec Ideal S1024x4096 .f32) (s b : EReal) : EReal :=
  Scalar.select (keep x w s b) (score x w s b) (Ideal.ofBits .f32 0xFF800000#32)

/-- The sum over a row of 1024 entries is the sum of the sums over its four chunks of 256. -/
theorem sum_chunks (f : Fin 1024 → EReal) :
    ∑ r : Fin 1024, f r
      = (∑ t : Fin 256, f ⟨t.val, by omega⟩) + (∑ t : Fin 256, f ⟨256 + t.val, by omega⟩)
        + (∑ t : Fin 256, f ⟨512 + t.val, by omega⟩) + ∑ t : Fin 256, f ⟨768 + t.val, by omega⟩ := by
  have h := Fin.sum_univ_tiles 4 256 rfl f
  rw [h, Fin.sum_univ_four]
  simp

/-- The block of the projection that a point stores: entry `(a, r)` is the projection of the loaded block's row `a`. -/
theorem pay2_at (x : Vec Ideal S1024x4096 .f32) (w : Vec Ideal S1024x4096 .f32) (a r : Fin 1024) :
    k0_pay2 (F := Ideal) x w (ix2 a r) = hidden (fun k => x (ix2 a k)) w r := by
  pointwise [k0_pay2, hidden]

/-- The scores of a point, before the threshold: entry `a` is the score of the loaded block's row `a`. -/
theorem pay3_at (x : Vec Ideal S1024x4096 .f32) (w : Vec Ideal S1024x4096 .f32) (s b : EReal) (a : Fin 1024) :
    k0_pay3 (F := Ideal) x w s b (ix2 a 0) = score (fun k => x (ix2 a k)) w s b := by
  pointwise [k0_pay3, pay2_at, score, sum_chunks]

/-- The comparison of a point. -/
theorem pay4_at (x : Vec Ideal S1024x4096 .f32) (w : Vec Ideal S1024x4096 .f32) (s b : EReal) (a : Fin 1024) :
    k0_pay4 (F := Ideal) x w s b (ix2 a 0) = keep (fun k => x (ix2 a k)) w s b := by
  unfold k0_pay4 keep
  rw [← pay3_at]
  rfl

/-- The block of scores that a point stores. -/
theorem pay5_at (x : Vec Ideal S1024x4096 .f32) (w : Vec Ideal S1024x4096 .f32) (s b : EReal) (a : Fin 1024) :
    k0_pay5 (F := Ideal) x w s b (ix2 a 0) = gated (fun k => x (ix2 a k)) w s b := by
  unfold k0_pay5 gated
  rw [← pay3_at, ← pay4_at]
  rfl

/-- The block of the mask that a point stores: one where the row passes, zero where it fails, as a float. -/
theorem pay1_at (v : IVec S1024x1 1) (a : Fin 1024) :
    k0_pay1 (F := Ideal) v (ix2 a 0) = ((((v (ix2 a 0)).zeroExtend 32).toInt : ℝ) : EReal) := by
  unfold k0_pay1
  rfl

end Cert.KernelIdeal.Gate

end
-- ==== Proof.Array.lean ====
/-
  What the three result arrays of the grid hold after the run, at the ideal instance: every point writes back its own
  block of rows, the sixteen blocks tile the arrays, and each row's entries depend on that row of the input alone.
-/
module

public import proofs.«01_k».proof.Proof.Block
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Gate

open Cert.KernelIdeal Cert.KernelIdeal.Gen

variable (m : (ℓ : Loc nD τ sig) → Buf (Elt Ideal) ℓ)

/-- Row `n` of the flattened tokens: token `n % 4096` of batch entry `n / 4096`. -/
def row (X : FVec Ideal S4x4096x4096 .f32) (n : Fin 16384) (k : Fin 4096) : EReal :=
  X (ix3 (⟨n.val / 4096, by omega⟩ : Fin 4) (⟨n.val % 4096, by omega⟩ : Fin 4096) k)

/-- The whole array of projections. -/
def hiddenArr (X : FVec Ideal S4x4096x4096 .f32) (w : FVec Ideal S1024x4096 .f32) : FVec Ideal S16384x1024 .f32 :=
  fun i => hidden (row X (i 0)) w (i 1)

/-- The whole array of reported scores, as one column. -/
def gatedArr (X : FVec Ideal S4x4096x4096 .f32) (w : FVec Ideal S1024x4096 .f32) (s b : FVec Ideal S1 .f32) :
    FVec Ideal S16384x1 .f32 :=
  fun i => gated (row X (i 0)) w (s (ix1 0)) (b (ix1 0))

/-- The whole mask, as one column of zeros and ones. -/
def maskArr (X : FVec Ideal S4x4096x4096 .f32) (w : FVec Ideal S1024x4096 .f32) (s b : FVec Ideal S1 .f32) :
    FVec Ideal S16384x1 .f32 :=
  fun i => ((((keep (row X (i 0)) w (s (ix1 0)) (b (ix1 0))).zeroExtend 32).toInt : ℝ) : EReal)

/-- The mask as the program returns it: entry `(p, q)` says whether token `q` of batch entry `p` passes. -/
def maskOut (X : FVec Ideal S4x4096x4096 .f32) (w : FVec Ideal S1024x4096 .f32) (s b : FVec Ideal S1 .f32) :
    IVec S4x4096 1 :=
  fun i => keep (fun k => X (ix3 (i 0) (i 1) k)) w (s (ix1 0)) (b (ix1 0))

/-- The scores as the program returns them: entry `(p, q)` is the reported score of token `q` of batch entry `p`. -/
def scoreOut (X : FVec Ideal S4x4096x4096 .f32) (w : FVec Ideal S1024x4096 .f32) (s b : FVec Ideal S1 .f32) :
    FVec Ideal S4x4096 .f32 :=
  fun i => gated (fun k => X (ix3 (i 0) (i 1) k)) w (s (ix1 0)) (b (ix1 0))

/-- Row `4096 p + q` of the flattened tokens is token `q` of batch entry `p`. -/
theorem row_pair (X : FVec Ideal S4x4096x4096 .f32) (p : Fin 4) (q : Fin 4096) (h : p.val * 4096 + q.val < 16384) :
    row X ⟨p.val * 4096 + q.val, h⟩ = fun k => X (ix3 p q k) := by
  funext k
  unfold row
  congr 2 <;> exact Fin.ext (by show _ = _; dsimp only; omega)

/-- The block of every window at every grid point, decided: the tokens and the three results move by one block of
    rows per point, and the weight, the scale and the bias stay. -/
theorem idx : ∀ t : Fin cfg0.N, win0_0.index t = ![0, 0] ∧ win0_1.index t = ![0, 0] ∧ win0_2.index t = ![t.val, 0]
    ∧ win0_3.index t = ![0, 0] ∧ win0_4.index t = ![t.val, 0] ∧ win0_5.index t = ![t.val, 0]
    ∧ win0_6.index t = ![t.val, 0] :=
  (by decide +kernel : ∀ t : Fin grid0.N, _)

/-- The grid finds the tokens flattened: the host reshaped them. -/
theorem entry_tokens (c : Dev nD) :
    (V m c main_v0 : FVec Ideal S16384x4096 .f32)
      = shapeCast S16384x4096 (m ((c : Thread nD τ).loc main_arg0)) shapeCasts_S4x4096x4096_S16384x4096 := by
  rfl

/-- The grid finds the scale as a one by one array. -/
theorem entry_scale (c : Dev nD) :
    (V m c main_v1 : FVec Ideal S1x1 .f32) = shapeCast S1x1 (m ((c : Thread nD τ).loc main_arg2)) shapeCasts_S1_S1x1 := by
  rfl

/-- The grid finds the bias as a one by one array. -/
theorem entry_bias (c : Dev nD) :
    (V m c main_v2 : FVec Ideal S1x1 .f32) = shapeCast S1x1 (m ((c : Thread nD τ).loc main_arg3)) shapeCasts_S1_S1x1 := by
  rfl

/-- The flattened tokens at a row and a lane. -/
theorem flat_at (X : FVec Ideal S4x4096x4096 .f32) (n : Fin 16384) (k : Fin 4096) :
    shapeCast S16384x4096 X shapeCasts_S4x4096x4096_S16384x4096 (ix2 n k) = row X n k := by
  refine shapeCast_apply X shapeCasts_S4x4096x4096_S16384x4096 _ _ ?_
  rw [rowMajor_val3 _ 16777216 4096 rfl rfl, rowMajor_val2 _ 4096 rfl]
  show n.val / 4096 * 16777216 + n.val % 4096 * 4096 + k.val = n.val * 4096 + k.val
  omega

/-- The block of tokens that point `t` loads: its row `a` is row `1024 t + a` of the flattened tokens. -/
theorem tokens_at (c : Dev nD) (t : Fin cfg0.N) (a : Fin 1024) (n : Fin 16384) (hn : n.val = t.val * 1024 + a.val) :
    (fun k : Fin 4096 => iblk m c 2 t (ix2 a k)) = row (m ((c : Thread nD τ).loc main_arg0)) n := by
  funext k
  have e : iblk m c 2 t (ix2 a k) = (V m c main_v0 : FVec Ideal S16384x4096 .f32) (ix2 n k) := by
    blk_ext [iblk, idx t]
  rw [e, entry_tokens, flat_at]

/-- The block of the weight that a point loads is the whole weight. -/
theorem weight_at (c : Dev nD) (t : Fin cfg0.N) : iblk m c 3 t = m ((c : Thread nD τ).loc main_arg1) := by
  blk_ext! [iblk, V, idx t]

/-- A scalar load from a one by one buffer reads its one entry. -/
theorem ld_scalar (v : Vec Ideal S1x1 .f32) (j : S1x1.Idx) :
    View.ld (Val := Elt Ideal) (e' := .f32) v (Rect.unit (s := S1x1) ![0, 0] ![1, 1] inb_S1x1_S1x1_0_0) j = v (ix2 0 0) := by
  refine congrArg v (funext fun a => ?_)
  fin_cases a <;> exact Subsingleton.elim (α := Fin 1) _ _

/-- The scale that a point loads. -/
theorem scale_at (c : Dev nD) (t : Fin cfg0.N) :
    (iblk m c 0 t : FVec Ideal S1x1 .f32) (ix2 0 0) = m ((c : Thread nD τ).loc main_arg2) (ix1 0) := by
  have e : (iblk m c 0 t : FVec Ideal S1x1 .f32) (ix2 0 0) = (V m c main_v1 : FVec Ideal S1x1 .f32) (ix2 0 0) := by
    blk_ext [iblk, idx t]
  rw [e, entry_scale]
  pointwise

/-- The bias that a point loads. -/
theorem bias_at (c : Dev nD) (t : Fin cfg0.N) :
    (iblk m c 1 t : FVec Ideal S1x1 .f32) (ix2 0 0) = m ((c : Thread nD τ).loc main_arg3) (ix1 0) := by
  have e : (iblk m c 1 t : FVec Ideal S1x1 .f32) (ix2 0 0) = (V m c main_v2 : FVec Ideal S1x1 .f32) (ix2 0 0) := by
    blk_ext [iblk, idx t]
  rw [e, entry_bias]
  pointwise

/-- Where row `a` of the block that point `t` writes back lies in the array. -/
theorem rows_lt (t : Fin cfg0.N) (a : Fin 1024) : t.val * 1024 + a.val < 16384 := by
  have h : t.val < 16 := by have := t.isLt; have e : cfg0.N = 16 := N_0; omega
  omega

/-- The array of projections after the run. -/
theorem final4 (c : Dev nD) : (dats m 0 c).arrAt 4 (cfgs 0).N
    = hiddenArr (m ((c : Thread nD τ).loc main_arg0)) (m ((c : Thread nD τ).loc main_arg1)) := by
  refine (dats m 0 c).arrAt_eq_of_covers 4 _ (by decide +kernel) fun t _ y => ?_
  blk_simp
  rw [after0_4]
  unfold outsAt0
  frame_out
  have e : ∀ a r : Fin 1024, k0_pay2 (F := Ideal) (iblk m c 2 t) (iblk m c 3 t) (ix2 a r)
      = hiddenArr (m ((c : Thread nD τ).loc main_arg0)) (m ((c : Thread nD τ).loc main_arg1))
          (ix2 ⟨t.val * 1024 + a.val, rows_lt t a⟩ r) := fun a r => by
    rw [pay2_at, tokens_at m c t a ⟨_, rows_lt t a⟩ rfl, weight_at]
    rfl
  have ey : y = ix2 (y 0) (y 1) := by blk_ext []
  have ei : (((View.whole main_v3_0).slice (win0_4.rect t)).emb y)
      = ix2 (⟨t.val * 1024 + (y 0).val, rows_lt t (y 0)⟩ : Fin 16384) (y 1 : Fin 1024) := by blk_ext [idx t]
  rw [ei]
  refine Eq.trans ?_ (e (y 0) (y 1))
  exact congrArg _ ey

/-- The column of scores after the run. -/
theorem final5 (c : Dev nD) : (dats m 0 c).arrAt 5 (cfgs 0).N
    = gatedArr (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  erw [ld_scalar (iblk m c 0 t), ld_scalar (iblk m c 1 t), scale_at, bias_at]
  have e : ∀ a : Fin 1024, k0_pay5 (F := Ideal) (iblk m c 2 t) (iblk m c 3 t)
      (m ((c : Thread nD τ).loc main_arg2) (ix1 0)) (m ((c : Thread nD τ).loc main_arg3) (ix1 0)) (ix2 a 0)
      = gatedArr (m ((c : Thread nD τ).loc main_arg0)) (m ((c : Thread nD τ).loc main_arg1))
          (m ((c : Thread nD τ).loc main_arg2)) (m ((c : Thread nD τ).loc main_arg3))
          (ix2 ⟨t.val * 1024 + a.val, rows_lt t a⟩ 0) := fun a => by
    rw [pay5_at, tokens_at m c t a ⟨_, rows_lt t a⟩ rfl, weight_at]
    rfl
  have ey : y = ix2 (y 0) 0 := by blk_ext []
  have ei : (((View.whole main_v3_1).slice (win0_5.rect t)).emb y)
      = ix2 (⟨t.val * 1024 + (y 0).val, rows_lt t (y 0)⟩ : Fin 16384) (0 : Fin 1) := by blk_ext [idx t]
  rw [ei]
  refine Eq.trans ?_ (e (y 0))
  exact congrArg _ ey

/-- The column of the mask after the run. -/
theorem final6 (c : Dev nD) : (dats m 0 c).arrAt 6 (cfgs 0).N
    = maskArr (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t _ y => ?_
  blk_simp
  rw [after0_6]
  unfold outsAt0
  frame_out
  erw [ld_scalar (iblk m c 0 t), ld_scalar (iblk m c 1 t), scale_at, bias_at]
  have e : ∀ a : Fin 1024, k0_pay1 (F := Ideal) (k0_pay4 (iblk m c 2 t) (iblk m c 3 t)
      (m ((c : Thread nD τ).loc main_arg2) (ix1 0)) (m ((c : Thread nD τ).loc main_arg3) (ix1 0))) (ix2 a 0)
      = maskArr (m ((c : Thread nD τ).loc main_arg0)) (m ((c : Thread nD τ).loc main_arg1))
          (m ((c : Thread nD τ).loc main_arg2)) (m ((c : Thread nD τ).loc main_arg3))
          (ix2 ⟨t.val * 1024 + a.val, rows_lt t a⟩ 0) := fun a => by
    rw [pay1_at, pay4_at, tokens_at m c t a ⟨_, rows_lt t a⟩ rfl, weight_at]
    rfl
  have ey : y = ix2 (y 0) 0 := by blk_ext []
  have ei : (((View.whole main_v3_2).slice (win0_6.rect t)).emb y)
      = ix2 (⟨t.val * 1024 + (y 0).val, rows_lt t (y 0)⟩ : Fin 16384) (0 : Fin 1) := by blk_ext [idx t]
  rw [ei]
  refine Eq.trans ?_ (e (y 0))
  exact congrArg _ ey

end Cert.KernelIdeal.Gate

end
-- ==== Proof.Tail.lean ====
/-
  The host's part after the grid: the mask column compared with zero is the gate's truth value again, and the two
  columns are laid out as batch by token.
-/
module

public import proofs.«01_k».proof.Proof.Array
public import Idealize.ShloMosaic.Lib.Pipeline.FrameSuffix

@[expose] public section

set_option maxRecDepth 16384

noncomputable section

open Idealize.ShloMosaic Idealize.ShloMosaic.TcCoe Idealize.SL.Sem
open Idealize.ShloMosaic.Pipeline (Dat)

namespace Cert.KernelIdeal.Gate

open Cert.KernelIdeal Cert.KernelIdeal.Gen

/-- A truth value stored as zero or one and compared with zero is that truth value. -/
theorem bit_ne_zero (v : BitVec 1) :
    Ideal.cmp .une ((((v.zeroExtend 32).toInt : ℝ) : EReal)) (Ideal.ofBits .f32 0x00000000#32) = v := by
  have z : Ideal.ofBits .f32 0x00000000#32 = 0 := by pointwise
  rw [z]
  rcases BitVec.eq_zero_or_eq_one v with h | h <;> subst h <;> simp [Ideal.cmp]

/-- A column laid out as batch by token. -/
theorem layout_at {α : Type} (v : S16384x1.Idx → α) (p : Fin 4) (q : Fin 4096) (h : p.val * 4096 + q.val < 16384) :
    shapeCast S4x4096 v shapeCasts_S16384x1_S4x4096 (ix2 p q) = v (ix2 ⟨p.val * 4096 + q.val, h⟩ 0) := by
  refine shapeCast_apply v shapeCasts_S16384x1_S4x4096 _ _ ?_
  rw [rowMajor_val2 _ 1 rfl, rowMajor_val2 _ 4096 rfl]
  show (p.val * 4096 + q.val) * 1 + 0 = p.val * 4096 + q.val
  omega

/-- The mask that the host makes of the mask column, at a batch entry and a token. -/
theorem mask_tail_at (X : FVec Ideal S4x4096x4096 .f32) (w : FVec Ideal S1024x4096 .f32) (s b : FVec Ideal S1 .f32)
    (p : Fin 4) (q : Fin 4096) :
    shapeCast S4x4096 (cmpf .une (maskArr X w s b) (broadcastInDim S16384x1 ![] bcast_S_S16384x1 (constant S_ .f32 0x00000000#32)))
        shapeCasts_S16384x1_S4x4096 (ix2 p q) = maskOut X w s b (ix2 p q) := by
  have h : p.val * 4096 + q.val < 16384 := by omega
  rw [layout_at _ p q h]
  show Ideal.cmp .une (maskArr X w s b _) (Ideal.ofBits .f32 0x00000000#32) = keep (fun k => X (ix3 p q k)) w _ _
  unfold maskArr
  rw [bit_ne_zero, ← row_pair X p q h]
  rfl

/-- The mask that the host makes of the mask column. -/
theorem mask_tail (X : FVec Ideal S4x4096x4096 .f32) (w : FVec Ideal S1024x4096 .f32) (s b : FVec Ideal S1 .f32) :
    shapeCast S4x4096 (cmpf .une (maskArr X w s b) (broadcastInDim S16384x1 ![] bcast_S_S16384x1 (constant S_ .f32 0x00000000#32)))
        shapeCasts_S16384x1_S4x4096 = maskOut X w s b := by
  funext i
  have ei : i = ix2 (i 0 : Fin 4) (i 1 : Fin 4096) := by blk_ext []
  rw [ei]
  exact mask_tail_at X w s b (i 0) (i 1)

/-- The scores that the host makes of the score column, at a batch entry and a token. -/
theorem score_tail_at (X : FVec Ideal S4x4096x4096 .f32) (w : FVec Ideal S1024x4096 .f32) (s b : FVec Ideal S1 .f32)
    (p : Fin 4) (q : Fin 4096) :
    shapeCast S4x4096 (gatedArr X w s b) shapeCasts_S16384x1_S4x4096 (ix2 p q) = scoreOut X w s b (ix2 p q) := by
  have h : p.val * 4096 + q.val < 16384 := by omega
  rw [layout_at _ p q h]
  show gated (row X ⟨p.val * 4096 + q.val, h⟩) w _ _ = gated (fun k => X (ix3 p q k)) w _ _
  rw [← row_pair X p q h]

/-- The scores that the host makes of the score column. -/
theorem score_tail (X : FVec Ideal S4x4096x4096 .f32) (w : FVec Ideal S1024x4096 .f32) (s b : FVec Ideal S1 .f32) :
    shapeCast S4x4096 (gatedArr X w s b) shapeCasts_S16384x1_S4x4096 = scoreOut X w s b := by
  funext i
  have ei : i = ix2 (i 0 : Fin 4) (i 1 : Fin 4096) := by blk_ext []
  rw [ei]
  exact score_tail_at X w s b (i 0) (i 1)

/-- The mask as the host operations leave it, from any buffer contents at the grid's end. -/
theorem ops_mask (σ : (b : DevRef τ sig) → b.ty.Contents (Elt Ideal)) :
    StableHlo.after [hostOps1 (F := Ideal)].flatten σ (Proc.devRef .tc main_v7)
      = shapeCast S4x4096 (cmpf (F := Ideal) (φ := .f32) .une (σ (Proc.devRef .tc main_v3_2))
          (broadcastInDim S16384x1 ![] bcast_S_S16384x1 (constant S_ .f32 0x00000000#32))) shapeCasts_S16384x1_S4x4096 := by
  rfl

/-- The scores as the host operations leave them, from any buffer contents at the grid's end. -/
theorem ops_score (σ : (b : DevRef τ sig) → b.ty.Contents (Elt Ideal)) :
    StableHlo.after [hostOps1 (F := Ideal)].flatten σ (Proc.devRef .tc main_v8)
      = shapeCast S4x4096 (σ (Proc.devRef .tc main_v3_1)) shapeCasts_S16384x1_S4x4096 := by
  rfl

variable (m : (ℓ : Loc nD τ sig) → Buf (Elt Ideal) ℓ)

/-- The mask after the host operations that follow the grid. -/
theorem tail_mask (c : Dev nD) :
    Pipeline.afterTail₀ cfgs (dats m) 0 (V0 m) [hostOps1] c main_v7
      = maskOut (m ((c : Thread nD τ).loc main_arg0)) (m ((c : Thread nD τ).loc main_arg1))
        (m ((c : Thread nD τ).loc main_arg2)) (m ((c : Thread nD τ).loc main_arg3)) := by
  unfold Pipeline.afterTail₀
  rw [ops_mask]
  erw [Pipeline.withArrays_arr _ launch0.win.arr_inj c _ _ 6, final6 m c]
  exact mask_tail _ _ _ _

/-- The scores after the host operations that follow the grid. -/
theorem tail_score (c : Dev nD) :
    Pipeline.afterTail₀ cfgs (dats m) 0 (V0 m) [hostOps1] c main_v8
      = scoreOut (m ((c : Thread nD τ).loc main_arg0)) (m ((c : Thread nD τ).loc main_arg1))
        (m ((c : Thread nD τ).loc main_arg2)) (m ((c : Thread nD τ).loc main_arg3)) := by
  unfold Pipeline.afterTail₀
  rw [ops_score]
  erw [Pipeline.withArrays_arr _ launch0.win.arr_inj c _ _ 5, final5 m c]
  exact score_tail _ _ _ _

/-- The kernel program's run: the mask, the scores and the projections as functions of the arguments, and the
    arguments as they were. -/
theorem run (ρ : Dev nD → PrngReg) :
    θ_run defs (onTc (τ := τ) (main (F := Ideal))) ⟨m, fun _ => 0, ρ⟩ fun r => ∀ c : Dev nD,
      r.2.mem ((c : Thread nD τ).loc main_v7)
          = maskOut (m ((c : Thread nD τ).loc main_arg0)) (m ((c : Thread nD τ).loc main_arg1))
            (m ((c : Thread nD τ).loc main_arg2)) (m ((c : Thread nD τ).loc main_arg3))
      ∧ r.2.mem ((c : Thread nD τ).loc main_v8)
          = scoreOut (m ((c : Thread nD τ).loc main_arg0)) (m ((c : Thread nD τ).loc main_arg1))
            (m ((c : Thread nD τ).loc main_arg2)) (m ((c : Thread nD τ).loc main_arg3))
      ∧ r.2.mem ((c : Thread nD τ).loc main_v3_0)
          = hiddenArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h c).2 main_v7 (Pipeline.mem_restRefs_of main_v7 (by decide) (by decide))).trans (tail_mask m c),
       ((h c).2 main_v8 (Pipeline.mem_restRefs_of main_v8 (by decide) (by decide))).trans (tail_score m c),
       ((h c).1 4).trans (final4 m c),
       ((h c).2 main_arg0 (Pipeline.mem_restRefs_of main_arg0 (by decide) (by decide))).trans (W_main_arg0 m (dats m) c),
       (((h c).1 3).trans ((dats m 0 c).arrAt_in 3 rfl _)).trans (V_main_arg1 m c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Gate

end
-- ==== Proof.Reference.lean ====
/-
  What the reference computes, at the ideal instance: its projection is one matrix product, its score the norm of each
  row, and its scatter writes the mask entry of every token at that token's own place.
-/
module

public import proofs.«01_k».proof.Proof.Array
public import proofs.«01_k».proof.Proof.Gen.ReferenceIdeal.Run
public import Idealize.ShloMosaic.Lib.Pointwise
public import Idealize.ShloMosaic.Lib.WordCmp
public import Idealize.ShloMosaic.Lib.Routing.OpsSet

@[expose] public section

set_option maxRecDepth 16384

noncomputable section

open Idealize.ShloMosaic Idealize.ShloMosaic.TcCoe Idealize.SL.Sem

namespace Cert.ReferenceIdeal.Gate

open Cert.ReferenceIdeal Cert.ReferenceIdeal.Gen
open Cert.KernelIdeal.Gate (hidden score keep gated row hiddenArr maskOut scoreOut flat_at row_pair)

/-- The reference's projection. -/
abbrev refHidden (X : FVec Ideal S4x4096x4096 .f32) (w : FVec Ideal S1024x4096 .f32) : FVec Ideal S16384x1024 .f32 :=
  Host.dotGeneral dot_S16384x4096_S4096x1024_S16384x1024_1_0_0_1_n_n none
    (shapeCast S16384x4096 X shapeCasts_S4x4096x4096_S16384x4096)
    (transpose S4096x1024 [1, 0] w transposes_S1024x4096_S4096x1024_1_0)

/-- The reference's score of every row. -/
abbrev refScore (X : FVec Ideal S4x4096x4096 .f32) (w : FVec Ideal S1024x4096 .f32) (s b : FVec Ideal S1 .f32) :
    FVec Ideal S16384 .f32 :=
  subf (mulf (Host.sqrt (Host.reduceAdd (mulf (refHidden X w) (refHidden X w)) (constant S_ .f32 0x00000000#32)
      reducesTo_S16384x1024_S16384_d1 h_S_)) (broadcastInDim S16384 ![] bcast_S_S16384 (shapeCast S_ s shapeCasts_S1_S_)))
    (broadcastInDim S16384 ![] bcast_S_S16384 (shapeCast S_ b shapeCasts_S1_S_))

/-- The reference's comparison with one half, of every row. -/
abbrev refKeep (X : FVec Ideal S4x4096x4096 .f32) (w : FVec Ideal S1024x4096 .f32) (s b : FVec Ideal S1 .f32) :
    IVec S16384 1 :=
  cmpf .oge (refScore X w s b) (broadcastInDim S16384 ![] bcast_S_S16384 (constant S_ .f32 0x3F000000#32))

/-- The indices at which the reference scatters: zero, one, two, …, with the wrap of a negative index spelt out. -/
abbrev refPlaces : IVec S16384x1 32 :=
  broadcastInDim S16384x1 ![0] bcast_S16384_S16384x1_0
    (select (cmpi .slt (iotaInDim S16384 32 0) (broadcastInDim S16384 ![] bcast_S_S16384 (constantI S_ 32 0#32)))
      (addi (iotaInDim S16384 32 0) (broadcastInDim S16384 ![] bcast_S_S16384 (constantI S_ 32 16384#32)))
      (iotaInDim S16384 32 0))

/-- The projection at a row and a hidden lane. -/
theorem hidden_at (X : FVec Ideal S4x4096x4096 .f32) (w : FVec Ideal S1024x4096 .f32) (n : Fin 16384) (r : Fin 1024) :
    refHidden X w (ix2 n r) = hidden (row X n) w r := by
  have e : refHidden X w (ix2 n r) = ∑ k : Fin 4096,
      shapeCast S16384x4096 X shapeCasts_S4x4096x4096_S16384x4096 (ix2 n k) * w (ix2 r k) := by
    unfold refHidden
    generalize shapeCast S16384x4096 X shapeCasts_S4x4096x4096_S16384x4096 = x
    pointwise
  rw [e]
  exact Finset.sum_congr rfl fun k _ => congrArg (· * w (ix2 r k)) (flat_at X n k)

/-- The score of a row. -/
theorem score_at (X : FVec Ideal S4x4096x4096 .f32) (w : FVec Ideal S1024x4096 .f32) (s b : FVec Ideal S1 .f32) (n : Fin 16384) :
    refScore X w s b (ix1 n) = score (row X n) w (s (ix1 0)) (b (ix1 0)) := by
  have e : refScore X w s b (ix1 n)
      = Ideal.sqrt (∑ r : Fin 1024, refHidden X w (ix2 n r) * refHidden X w (ix2 n r)) * s (ix1 0) - b (ix1 0) := by
    unfold refScore
    generalize refHidden X w = g
    pointwise
  rw [e]
  unfold score
  simp only [hidden_at]

/-- The comparison of a row. -/
theorem keep_at (X : FVec Ideal S4x4096x4096 .f32) (w : FVec Ideal S1024x4096 .f32) (s b : FVec Ideal S1 .f32) (n : Fin 16384) :
    refKeep X w s b (ix1 n) = keep (row X n) w (s (ix1 0)) (b (ix1 0)) := by
  have e : ∀ g : FVec Ideal S16384 .f32,
      cmpf .oge g (broadcastInDim S16384 ![] bcast_S_S16384 (constant S_ .f32 0x3F000000#32)) (ix1 n)
        = Ideal.cmp .oge (g (ix1 n)) (Ideal.ofBits .f32 0x3F000000#32) := fun g => rfl
  refine (e _).trans ?_
  rw [score_at]
  rfl

/-- The place of update `n` is `n`. -/
theorem places_at (n : Fin 16384) : refPlaces (ix2 n (0 : Fin 1)) = BitVec.ofNat 32 n.val := by
  unfold refPlaces
  pointwise
  have h := n.isLt
  exact WordCmp.select_of_eq_zero ((WordCmp.cmpi_slt_ofNat_eq_zero_iff (b := 0) (by omega) (by omega)).mpr (by omega)) _ _

/-- Every update lands at its own place, so the scatter returns its updates. -/
theorem scatter_places (x0 upd : IVec S16384 1) (n : Fin 16384) :
    Host.scatter scatter_S16384_S16384x1_S16384_n_0_0_1 (fun _ b => b) x0 refPlaces upd (ix1 n) = upd (ix1 n) :=
  (Routing.scatter_set scatter_S16384_S16384x1_S16384_n_0_0_1 rfl rfl rfl x0 refPlaces upd id places_at
    (fun i => by have := i.isLt; show i.val < _; omega) n (upd (ix1 n)) fun i h => by
      have e : i = n := Fin.ext h
      subst e
      rfl).1 ⟨n, rfl⟩

/-- A vector laid out as batch by token. -/
theorem layout_at {α : Type} (v : S16384.Idx → α) (p : Fin 4) (q : Fin 4096) (h : p.val * 4096 + q.val < 16384) :
    shapeCast S4x4096 v shapeCasts_S16384_S4x4096 (ix2 p q) = v (ix1 ⟨p.val * 4096 + q.val, h⟩) := by
  refine shapeCast_apply v shapeCasts_S16384_S4x4096 _ _ ?_
  rw [rowMajor_val1, rowMajor_val2 _ 4096 rfl]
  rfl

/-- The reference's projection is the array of projections. -/
theorem hidden_eq (X : FVec Ideal S4x4096x4096 .f32) (w : FVec Ideal S1024x4096 .f32) :
    refHidden X w = hiddenArr X w := by
  funext i
  have ei : i = ix2 (i 0 : Fin 16384) (i 1 : Fin 1024) := by blk_ext []
  rw [ei]
  exact hidden_at X w (i 0) (i 1)

/-- The reference's mask, at a batch entry and a token. -/
theorem mask_at (X : FVec Ideal S4x4096x4096 .f32) (w : FVec Ideal S1024x4096 .f32) (s b : FVec Ideal S1 .f32) (x0 : IVec S16384 1)
    (p : Fin 4) (q : Fin 4096) :
    shapeCast S4x4096 (Host.scatter scatter_S16384_S16384x1_S16384_n_0_0_1 (fun _ b => b) x0 refPlaces (refKeep X w s b))
        shapeCasts_S16384_S4x4096 (ix2 p q) = maskOut X w s b (ix2 p q) := by
  have h : p.val * 4096 + q.val < 16384 := by omega
  rw [layout_at _ p q h, scatter_places, keep_at, row_pair]
  rfl

/-- The reference's mask. -/
theorem mask_eq (X : FVec Ideal S4x4096x4096 .f32) (w : FVec Ideal S1024x4096 .f32) (s b : FVec Ideal S1 .f32) (x0 : IVec S16384 1) :
    shapeCast S4x4096 (Host.scatter scatter_S16384_S16384x1_S16384_n_0_0_1 (fun _ b => b) x0 refPlaces (refKeep X w s b))
        shapeCasts_S16384_S4x4096 = maskOut X w s b := by
  funext i
  have ei : i = ix2 (i 0 : Fin 4) (i 1 : Fin 4096) := by blk_ext []
  rw [ei]
  exact mask_at X w s b x0 (i 0) (i 1)

/-- The reference's scores, at a batch entry and a token. -/
theorem scores_at (X : FVec Ideal S4x4096x4096 .f32) (w : FVec Ideal S1024x4096 .f32) (s b : FVec Ideal S1 .f32)
    (p : Fin 4) (q : Fin 4096) :
    shapeCast S4x4096 (select (refKeep X w s b) (refScore X w s b)
        (broadcastInDim S16384 ![] bcast_S_S16384 (constant S_ .f32 0xFF800000#32)))
        shapeCasts_S16384_S4x4096 (ix2 p q) = scoreOut X w s b (ix2 p q) := by
  have h : p.val * 4096 + q.val < 16384 := by omega
  have e : ∀ (g : FVec Ideal S16384 .f32) (v : IVec S16384 1) (n : Fin 16384),
      select v g (broadcastInDim S16384 ![] bcast_S_S16384 (constant S_ .f32 0xFF800000#32)) (ix1 n)
        = Scalar.select (v (ix1 n)) (g (ix1 n)) (Ideal.ofBits .f32 0xFF800000#32) := fun g v n => rfl
  rw [layout_at _ p q h, e, keep_at, score_at, row_pair]
  rfl

/-- The reference's scores. -/
theorem score_eq (X : FVec Ideal S4x4096x4096 .f32) (w : FVec Ideal S1024x4096 .f32) (s b : FVec Ideal S1 .f32) :
    shapeCast S4x4096 (select (refKeep X w s b) (refScore X w s b)
        (broadcastInDim S16384 ![] bcast_S_S16384 (constant S_ .f32 0xFF800000#32)))
        shapeCasts_S16384_S4x4096 = scoreOut X w s b := by
  funext i
  have ei : i = ix2 (i 0 : Fin 4) (i 1 : Fin 4096) := by blk_ext []
  rw [ei]
  exact scores_at X w s b (i 0) (i 1)

variable (m : (ℓ : Loc nD τ sig) → Buf (Elt Ideal) ℓ)

/-- The reference's run: the mask, the scores and the projections as the same functions of the arguments, and the
    arguments as they were. -/
theorem run (ρ : Dev nD → PrngReg) :
    θ_run defs (onTc (τ := τ) (main (F := Ideal))) ⟨m, fun _ => 0, ρ⟩ fun r => ∀ c : Dev nD,
      r.2.mem ((c : Thread nD τ).loc main_v21)
          = maskOut (m ((c : Thread nD τ).loc main_arg0)) (m ((c : Thread nD τ).loc main_arg1))
            (m ((c : Thread nD τ).loc main_arg2)) (m ((c : Thread nD τ).loc main_arg3))
      ∧ r.2.mem ((c : Thread nD τ).loc main_v23)
          = scoreOut (m ((c : Thread nD τ).loc main_arg0)) (m ((c : Thread nD τ).loc main_arg1))
            (m ((c : Thread nD τ).loc main_arg2)) (m ((c : Thread nD τ).loc main_arg3))
      ∧ r.2.mem ((c : Thread nD τ).loc main_v2)
          = hiddenArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨(h c).1.trans (mask_eq _ _ _ _ _), (h c).2.1.trans (score_eq _ _ _ _), (h c).2.2.1.trans (hidden_eq _ _),
       (h c).2.2.2⟩)
    (Value.run (F := Ideal) m ρ)

end Cert.ReferenceIdeal.Gate

end
-- ==== Proof.lean ====
/-
  The certificate of the gate kernel: the three frames, that the kernel read at the ideal instance is the kernel itself,
  and that kernel and reference return the same mask, the same scores and the same projections over the extended reals.

    Block.lean      what one grid point computes, read at an index
    Array.lean      what the three arrays of the grid hold after the run
    Tail.lean       what the host makes of them, and the kernel program's run
    Reference.lean  what the reference computes, and its run
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tail
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel terminates without fault, leaves its arguments alone, and ends with every semaphore at zero. -/
theorem frame_kernel : Cert.quiescent_Kernel := fun m ρ _ => Cert.Kernel.Gen.frame m ρ

/-- The kernel at the ideal instance does so too. -/
theorem frame_ideal : Cert.quiescent_KernelIdeal := fun m ρ _ => Cert.KernelIdeal.Gen.frame m ρ

/-- The reference does so too: it runs on the host alone and has no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Gate.run m ρ)

/-- Reading the kernel at the ideal instance rewrote no operation. -/
theorem preserves : Cert.preserves_Kernel_KernelIdeal := trivial

/-- From equal arguments, kernel and reference end with equal masks, equal scores and equal projections: both are the
    same functions of the arguments. -/
theorem algebraic : Cert.algebraic_KernelIdeal_ReferenceIdeal := by
  intro m ρ m' ρ' _ hagree
  refine ⟨_, _, _, Cert.KernelIdeal.Gate.run m ρ, ?_⟩
  refine (θ_run Cert.ReferenceIdeal.defs _ _).mono (fun r h c => ?_) (Cert.ReferenceIdeal.Gate.run m' ρ')
  have hc := h c
  obtain ⟨e0, e1, e2, e3⟩ := hagree c
  refine ⟨hc.1.trans ?_, hc.2.1.trans ?_, hc.2.2.1.trans ?_, hc.2.2.2⟩
  · rw [e0, e1, e2, e3]
  · rw [e0, e1, e2, e3]
  · rw [e0, e1]

/-- The certificate. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
